-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_digits_in_range [hPre_digits_in_range : Cert.Pre_digits_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_digits_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_digits_in_range [hPre_digits_in_range : Cert.Pre_digits_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_digits_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_digits_in_range [hKernelIdeal : Cert.KernelIdeal.Facts] [hPre_digits_in_range : Cert.Pre_digits_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_digits_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_digits_in_range [hReferenceIdeal : Cert.ReferenceIdeal.Facts] [hPre_digits_in_range : Cert.Pre_digits_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_digits_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_digits_in_range [hKernelIdeal : Cert.KernelIdeal.Facts] [hReferenceIdeal : Cert.ReferenceIdeal.Facts] [hPre_digits_in_range : Cert.Pre_digits_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_digits_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_digits_in_range : Cert.Pre_digits_in_range.Facts),
    quiescent_Kernel (hKernel := hKernel)
    ∧ quiescent_KernelIdeal (hKernelIdeal := hKernelIdeal)
    ∧ quiescent_KernelIdeal_pre_digits_in_range (hKernelIdeal := hKernelIdeal) (hPre_digits_in_range := hPre_digits_in_range)
    ∧ quiescent_ReferenceIdeal (hReferenceIdeal := hReferenceIdeal)
    ∧ quiescent_ReferenceIdeal_pre_digits_in_range (hReferenceIdeal := hReferenceIdeal) (hPre_digits_in_range := hPre_digits_in_range)
    ∧ preserves_Kernel_KernelIdeal
    ∧ algebraic_KernelIdeal_ReferenceIdeal_pre_digits_in_range (hKernelIdeal := hKernelIdeal) (hReferenceIdeal := hReferenceIdeal) (hPre_digits_in_range := hPre_digits_in_range)
-- ==== Pre_digits_in_range.lean ====
abbrev S2048x32x32x3 : Shape := ⟨4, ![2048, 32, 32, 3]⟩
abbrev S33x8 : Shape := ⟨2, ![33, 8]⟩
abbrev S_ : Shape := ⟨0, ![]⟩

class Facts : Prop where
  bcast_S_S2048x32x32x3 : S_.BroadcastsInDim S2048x32x32x3 (![] : Fin 0 → Fin S2048x32x32x3.rank)
  reducesTo_S2048x32x32x3_S_d0_1_2_3 : S2048x32x32x3.ReducesTo [0, 1, 2, 3] S_
  h_S_ : 0 < S_.numel

variable [Facts]

def fn {F : FTy → Type} [FloatOps F] (main_arg0 : IVec S2048x32x32x3 32) (main_arg1 : FVec F S33x8 .f32) : IVec S_ 1 :=
  let main_c : IVec S_ 32 := constantI S_ 32 0#32
  let main_v0 : IVec S2048x32x32x3 32 := broadcastInDim S2048x32x32x3 ![] bcast_S_S2048x32x32x3 main_c
  let main_v1 : IVec S2048x32x32x3 1 := cmpi .sge main_arg0 main_v0
  let main_c_0 : IVec S_ 32 := constantI S_ 32 11#32
  let main_v2 : IVec S2048x32x32x3 32 := broadcastInDim S2048x32x32x3 ![] bcast_S_S2048x32x32x3 main_c_0
  let main_v3 : IVec S2048x32x32x3 1 := cmpi .slt main_arg0 main_v2
  let main_v4 : IVec S2048x32x32x3 1 := andi main_v1 main_v3
  let main_c_1 : IVec S_ 1 := constantI S_ 1 1#1
  let main_v5 : IVec S_ 1 := (fun x v => Host.reduce IntOp.andi x v reducesTo_S2048x32x32x3_S_d0_1_2_3 h_S_) main_v4 main_c_1
  main_v5
-- ==== Kernel.lean ====
abbrev S2048x32x32x3 : Shape := ⟨4, ![2048, 32, 32, 3]⟩
abbrev S33x8 : Shape := ⟨2, ![33, 8]⟩
abbrev S3 : Shape := ⟨1, ![3]⟩
abbrev S2048x1024x3 : Shape := ⟨3, ![2048, 1024, 3]⟩
abbrev S1x1x3 : Shape := ⟨3, ![1, 1, 3]⟩
abbrev S_ : Shape := ⟨0, ![]⟩
abbrev S2048x1024 : Shape := ⟨2, ![2048, 1024]⟩
abbrev S40x8 : Shape := ⟨2, ![40, 8]⟩
abbrev S24 : Shape := ⟨1, ![24]⟩
abbrev S40 : Shape := ⟨1, ![40]⟩
abbrev S1x40 : Shape := ⟨2, ![1, 40]⟩
abbrev S24x1 : Shape := ⟨2, ![24, 1]⟩
abbrev S24x40 : Shape := ⟨2, ![24, 40]⟩
abbrev S8x40 : Shape := ⟨2, ![8, 40]⟩
abbrev S2048x24x1024 : Shape := ⟨3, ![2048, 24, 1024]⟩
abbrev S128x1024 : Shape := ⟨2, ![128, 1024]⟩
abbrev S128x24x1024 : Shape := ⟨3, ![128, 24, 1024]⟩
abbrev S40x1 : Shape := ⟨2, ![40, 1]⟩
abbrev S1x1024 : Shape := ⟨2, ![1, 1024]⟩
abbrev S40x1024 : Shape := ⟨2, ![40, 1024]⟩
abbrev S24x1024 : Shape := ⟨2, ![24, 1024]⟩
abbrev S1x24x1024 : Shape := ⟨3, ![1, 24, 1024]⟩
abbrev S2048x24x32x32 : Shape := ⟨4, ![2048, 24, 32, 32]⟩

abbrev nBuf : Space → Nat
  | .hbm => 95
  | .vmem => 5
  | .smem => 0
  | _ => 0

abbrev bufTy : (tb : Table) → Fin (tcTables nBuf tb) → BufTy
  | .hbm, ⟨0, _⟩ => ⟨S2048x32x32x3, .i32⟩
  | .hbm, ⟨1, _⟩ => ⟨S33x8, .f32⟩
  | .hbm, ⟨2, _⟩ => ⟨S3, .i32⟩
  | .hbm, ⟨3, _⟩ => ⟨S2048x1024x3, .i32⟩
  | .hbm, ⟨4, _⟩ => ⟨S1x1x3, .i32⟩
  | .hbm, ⟨5, _⟩ => ⟨S2048x1024x3, .i32⟩
  | .hbm, ⟨6, _⟩ => ⟨S2048x1024x3, .i32⟩
  | .hbm, ⟨7, _⟩ => ⟨S_, .i32⟩
  | .hbm, ⟨8, _⟩ => ⟨S2048x1024, .i32⟩
  | .hbm, ⟨9, _⟩ => ⟨S2048x1024, .i16⟩
  | .hbm, ⟨10, _⟩ => ⟨S_, .i32⟩
  | .hbm, ⟨11, _⟩ => ⟨S_, .f32⟩
  | .hbm, ⟨12, _⟩ => ⟨S40x8, .f32⟩
  | .hbm, ⟨13, _⟩ => ⟨S24, .i32⟩
  | .hbm, ⟨14, _⟩ => ⟨S40, .i32⟩
  | .hbm, ⟨15, _⟩ => ⟨S1x40, .i32⟩
  | .hbm, ⟨16, _⟩ => ⟨S_, .i32⟩
  | .hbm, ⟨17, _⟩ => ⟨S_, .i32⟩
  | .hbm, ⟨18, _⟩ => ⟨S1x40, .i32⟩
  | .hbm, ⟨19, _⟩ => ⟨S1x40, .i32⟩
  | .hbm, ⟨20, _⟩ => ⟨S1x40, .i32⟩
  | .hbm, ⟨21, _⟩ => ⟨S_, .i32⟩
  | .hbm, ⟨22, _⟩ => ⟨S1x40, .i32⟩
  | .hbm, ⟨23, _⟩ => ⟨S1x40, .i1⟩
  | .hbm, ⟨24, _⟩ => ⟨S1x40, .i32⟩
  | .hbm, ⟨25, _⟩ => ⟨S1x40, .i32⟩
  | .hbm, ⟨26, _⟩ => ⟨S_, .i32⟩
  | .hbm, ⟨27, _⟩ => ⟨S1x40, .i32⟩
  | .hbm, ⟨28, _⟩ => ⟨S1x40, .i1⟩
  | .hbm, ⟨29, _⟩ => ⟨S1x40, .i1⟩
  | .hbm, ⟨30, _⟩ => ⟨S_, .i32⟩
  | .hbm, ⟨31, _⟩ => ⟨S1x40, .i32⟩
  | .hbm, ⟨32, _⟩ => ⟨S1x40, .i32⟩
  | .hbm, ⟨33, _⟩ => ⟨S1x40, .i32⟩
  | .hbm, ⟨34, _⟩ => ⟨S24x1, .i32⟩
  | .hbm, ⟨35, _⟩ => ⟨S_, .i32⟩
  | .hbm, ⟨36, _⟩ => ⟨S_, .i32⟩
  | .hbm, ⟨37, _⟩ => ⟨S24x1, .i32⟩
  | .hbm, ⟨38, _⟩ => ⟨S24x1, .i32⟩
  | .hbm, ⟨39, _⟩ => ⟨S24x1, .i32⟩
  | .hbm, ⟨40, _⟩ => ⟨S_, .i32⟩
  | .hbm, ⟨41, _⟩ => ⟨S24x1, .i32⟩
  | .hbm, ⟨42, _⟩ => ⟨S24x1, .i1⟩
  | .hbm, ⟨43, _⟩ => ⟨S24x1, .i32⟩
  | .hbm, ⟨44, _⟩ => ⟨S24x1, .i32⟩
  | .hbm, ⟨45, _⟩ => ⟨S_, .i32⟩
  | .hbm, ⟨46, _⟩ => ⟨S24x1, .i32⟩
  | .hbm, ⟨47, _⟩ => ⟨S24x1, .i1⟩
  | .hbm, ⟨48, _⟩ => ⟨S24x1, .i1⟩
  | .hbm, ⟨49, _⟩ => ⟨S_, .i32⟩
  | .hbm, ⟨50, _⟩ => ⟨S24x1, .i32⟩
  | .hbm, ⟨51, _⟩ => ⟨S24x1, .i32⟩
  | .hbm, ⟨52, _⟩ => ⟨S24x1, .i32⟩
  | .hbm, ⟨53, _⟩ => ⟨S24x40, .i32⟩
  | .hbm, ⟨54, _⟩ => ⟨S24x40, .i32⟩
  | .hbm, ⟨55, _⟩ => ⟨S24x40, .i1⟩
  | .hbm, ⟨56, _⟩ => ⟨S8x40, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S24, .i32⟩
  | .hbm, ⟨64, _⟩ => ⟨S24, .i32⟩
  | .hbm, ⟨65, _⟩ => ⟨S_, .i32⟩
  | .hbm, ⟨66, _⟩ => ⟨S24, .i32⟩
  | .hbm, ⟨67, _⟩ => ⟨S24, .i1⟩
  | .hbm, ⟨68, _⟩ => ⟨S_, .i32⟩
  | .hbm, ⟨69, _⟩ => ⟨S24, .i32⟩
  | .hbm, ⟨70, _⟩ => ⟨S24, .i1⟩
  | .hbm, ⟨71, _⟩ => ⟨S_, .i32⟩
  | .hbm, ⟨72, _⟩ => ⟨S_, .i1⟩
  | .hbm, ⟨73, _⟩ => ⟨S24, .i1⟩
  | .hbm, ⟨74, _⟩ => ⟨S24, .i1⟩
  | .hbm, ⟨75, _⟩ => ⟨S24, .i1⟩
  | .hbm, ⟨76, _⟩ => ⟨S24, .i32⟩
  | .hbm, ⟨77, _⟩ => ⟨S24, .i32⟩
  | .hbm, ⟨78, _⟩ => ⟨S24, .i32⟩
  | .hbm, ⟨79, _⟩ => ⟨S_, .i32⟩
  | .hbm, ⟨80, _⟩ => ⟨S24, .i32⟩
  | .hbm, ⟨81, _⟩ => ⟨S24, .i1⟩
  | .hbm, ⟨82, _⟩ => ⟨S_, .i32⟩
  | .hbm, ⟨83, _⟩ => ⟨S24, .i32⟩
  | .hbm, ⟨84, _⟩ => ⟨S24, .i32⟩
  | .hbm, ⟨85, _⟩ => ⟨S24, .i32⟩
  | .hbm, ⟨86, _⟩ => ⟨S24x1, .i32⟩
  | .hbm, ⟨87, _⟩ => ⟨S24x40, .f32⟩
  | .hbm, ⟨88, _⟩ => ⟨S_, .f32⟩
  | .hbm, ⟨89, _⟩ => ⟨S_, .f32⟩
  | .hbm, ⟨90, _⟩ => ⟨S24x40, .f32⟩
  | .hbm, ⟨91, _⟩ => ⟨S24x40, .f32⟩
  | .hbm, ⟨92, _⟩ => ⟨S24x40, .bf16⟩
  | .hbm, ⟨93, _⟩ => ⟨S2048x24x1024, .f32⟩
  | .hbm, ⟨94, _⟩ => ⟨S2048x24x32x32, .f32⟩
  | .local _ .vmem, ⟨0, _⟩ => ⟨S128x1024, .i16⟩
  | .local _ .vmem, ⟨1, _⟩ => ⟨S128x1024, .i16⟩
  | .local _ .vmem, ⟨2, _⟩ => ⟨S24x40, .bf16⟩
  | .local _ .vmem, ⟨3, _⟩ => ⟨S128x24x1024, .f32⟩
  | .local _ .vmem, ⟨4, _⟩ => ⟨S128x24x1024, .f32⟩
  | _, _ => ⟨S2048x32x32x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_c : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_0 : Ref sig .tc := ⟨.hbm, 30, rfl⟩
abbrev main_call1_v12 : Ref sig .tc := ⟨.hbm, 31, rfl⟩
abbrev main_call1_v13 : Ref sig .tc := ⟨.hbm, 32, rfl⟩
abbrev main_v10 : Ref sig .tc := ⟨.hbm, 33, rfl⟩
abbrev main_v11 : Ref sig .tc := ⟨.hbm, 34, rfl⟩
abbrev main_c_3 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_c_4 : Ref sig .tc := ⟨.hbm, 57, rfl⟩
abbrev main_call3_v0 : Ref sig .tc := ⟨.hbm, 58, rfl⟩
abbrev main_call3_c : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_c_1 : Ref sig .tc := ⟨.hbm, 65, rfl⟩
abbrev main_call3_v5 : Ref sig .tc := ⟨.hbm, 66, rfl⟩
abbrev main_call3_v6 : Ref sig .tc := ⟨.hbm, 67, rfl⟩
abbrev main_call3_c_2 : Ref sig .tc := ⟨.hbm, 68, rfl⟩
abbrev main_call3_v7 : Ref sig .tc := ⟨.hbm, 69, rfl⟩
abbrev main_call3_v8 : Ref sig .tc := ⟨.hbm, 70, rfl⟩
abbrev main_call3_c_3 : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_v12 : Ref sig .tc := ⟨.hbm, 75, rfl⟩
abbrev main_call3_v13 : Ref sig .tc := ⟨.hbm, 76, rfl⟩
abbrev main_call3_v14 : Ref sig .tc := ⟨.hbm, 77, rfl⟩
abbrev main_v17 : Ref sig .tc := ⟨.hbm, 78, rfl⟩
abbrev main_c_5 : Ref sig .tc := ⟨.hbm, 79, rfl⟩
abbrev main_v18 : Ref sig .tc := ⟨.hbm, 80, rfl⟩
abbrev main_v19 : Ref sig .tc := ⟨.hbm, 81, rfl⟩
abbrev main_c_6 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_cst : Ref sig .tc := ⟨.hbm, 88, rfl⟩
abbrev main_call4_v0 : Ref sig .tc := ⟨.hbm, 89, rfl⟩
abbrev main_call4_v1 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .i16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x40 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x24x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2048x32x32x3 : Shape := ⟨4, ![2048, 32, 32, 3]⟩
abbrev S33x8 : Shape := ⟨2, ![33, 8]⟩
abbrev S3 : Shape := ⟨1, ![3]⟩
abbrev S1x1x1x3 : Shape := ⟨4, ![1, 1, 1, 3]⟩
abbrev S_ : Shape := ⟨0, ![]⟩
abbrev S2048x32x32x3x1 : Shape := ⟨5, ![2048, 32, 32, 3, 1]⟩
abbrev S1 : Shape := ⟨1, ![1]⟩
abbrev S1x1x1x1x1 : Shape := ⟨5, ![1, 1, 1, 1, 1]⟩
abbrev S2048x32x32x3x8 : Shape := ⟨5, ![2048, 32, 32, 3, 8]⟩
abbrev S2048x32x32x24 : Shape := ⟨4, ![2048, 32, 32, 24]⟩
abbrev S2048x24x32x32 : Shape := ⟨4, ![2048, 24, 32, 32]⟩

abbrev nBuf : Space → Nat
  | .hbm => 31
  | .vmem => 0
  | .smem => 0
  | _ => 0

abbrev bufTy : (tb : Table) → Fin (tcTables nBuf tb) → BufTy
  | .hbm, ⟨0, _⟩ => ⟨S2048x32x32x3, .i32⟩
  | .hbm, ⟨1, _⟩ => ⟨S33x8, .f32⟩
  | .hbm, ⟨2, _⟩ => ⟨S3, .i32⟩
  | .hbm, ⟨3, _⟩ => ⟨S1x1x1x3, .i32⟩
  | .hbm, ⟨4, _⟩ => ⟨S2048x32x32x3, .i32⟩
  | .hbm, ⟨5, _⟩ => ⟨S2048x32x32x3, .i32⟩
  | .hbm, ⟨6, _⟩ => ⟨S_, .i32⟩
  | .hbm, ⟨7, _⟩ => ⟨S2048x32x32x3, .i32⟩
  | .hbm, ⟨8, _⟩ => ⟨S2048x32x32x3, .i1⟩
  | .hbm, ⟨9, _⟩ => ⟨S_, .i32⟩
  | .hbm, ⟨10, _⟩ => ⟨S2048x32x32x3, .i32⟩
  | .hbm, ⟨11, _⟩ => ⟨S2048x32x32x3, .i32⟩
  | .hbm, ⟨12, _⟩ => ⟨S2048x32x32x3, .i32⟩
  | .hbm, ⟨13, _⟩ => ⟨S2048x32x32x3x1, .i32⟩
  | .hbm, ⟨14, _⟩ => ⟨S1, .i32⟩
  | .hbm, ⟨15, _⟩ => ⟨S_, .i32⟩
  | .hbm, ⟨16, _⟩ => ⟨S2048x32x32x3x1, .i32⟩
  | .hbm, ⟨17, _⟩ => ⟨S2048x32x32x3x1, .i1⟩
  | .hbm, ⟨18, _⟩ => ⟨S1x1x1x1x1, .i32⟩
  | .hbm, ⟨19, _⟩ => ⟨S2048x32x32x3x1, .i32⟩
  | .hbm, ⟨20, _⟩ => ⟨S2048x32x32x3x1, .i1⟩
  | .hbm, ⟨21, _⟩ => ⟨S2048x32x32x3x1, .i1⟩
  | .hbm, ⟨22, _⟩ => ⟨S_, .i1⟩
  | .hbm, ⟨23, _⟩ => ⟨S2048x32x32x3, .i1⟩
  | .hbm, ⟨24, _⟩ => ⟨S2048x32x32x3x8, .f32⟩
  | .hbm, ⟨25, _⟩ => ⟨S2048x32x32x3x8, .i1⟩
  | .hbm, ⟨26, _⟩ => ⟨S_, .f32⟩
  | .hbm, ⟨27, _⟩ => ⟨S2048x32x32x3x8, .f32⟩
  | .hbm, ⟨28, _⟩ => ⟨S2048x32x32x3x8, .f32⟩
  | .hbm, ⟨29, _⟩ => ⟨S2048x32x32x24, .f32⟩
  | .hbm, ⟨30, _⟩ => ⟨S2048x24x32x32, .f32⟩
  | _, _ => ⟨S2048x32x32x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩

abbrev nD : Nat := 1
abbrev τ : Topo := Topo.v7x

variable {F : FTy → Type} [FloatOps F]
-- ==== Proof.Range.lean ====
/- The precondition: every digit is one of 0, …, 10. -/
module

public import proofs.«01_k».proof.Defs
public import Idealize.ShloMosaic.Lib.ReduceAll

@[expose] public section

noncomputable section

namespace Cert.Pre_digits_in_range.Lut

open Idealize.ShloMosaic Cert.Pre_digits_in_range

/-- The shape relations that the precondition states. -/
theorem facts : Facts where
  bcast_S_S2048x32x32x3 := by decide
  reducesTo_S2048x32x32x3_S_d0_1_2_3 := by decide
  h_S_ := by decide

/-- A word that compares as at least 0 and below 11 is below 11 as a natural number. -/
theorem word_lt (w : BitVec 32) (h : IntOp.andi (IntOp.cmpi .sge w 0#32) (IntOp.cmpi .slt w 11#32) = 1#1) : w.toNat < 11 := by
  obtain ⟨h0, h1⟩ := IntOp.andi_eq_one.1 h
  have a : (0#32).sle w = true := by
    have h0' : BitVec.ofBool ((0#32).sle w) = 1#1 := h0
    cases e : (0#32).sle w <;> simp_all
  have b : w.slt 11#32 = true := by
    have h1' : BitVec.ofBool (w.slt 11#32) = 1#1 := h1
    cases e : w.slt 11#32 <;> simp_all
  rw [BitVec.sle_iff_toInt_le] at a
  rw [BitVec.slt_iff_toInt_lt] at b
  have z : (0#32).toInt = 0 := rfl
  have e : (11#32).toInt = 11 := rfl
  rw [z] at a
  rw [e] at b
  rw [BitVec.toInt_eq_toNat_cond] at a b
  have := w.isLt
  split at a <;> omega

/-- Under the precondition every digit is below 11. -/
theorem digit_lt [Facts] (x : IVec S2048x32x32x3 32) (t : FVec Ideal S33x8 .f32) (h : fn (F := Ideal) x t = fun _ => 1#1) (i : S2048x32x32x3.Idx) :
    (x i).toNat < 11 := by
  haveI : Subsingleton S_.Idx := ⟨fun a b => funext fun k => k.elim0⟩
  exact word_lt _ (Host.reduce_andi_all _ _ _ _ default (congrFun h default) i)

end Cert.Pre_digits_in_range.Lut

end
-- ==== Proof.Reference.lean ====
/- What the reference computes, at an index, when every digit is in its range. -/
module

public import proofs.«01_k».proof.Proof.Gen.ReferenceIdeal.Run
public import Idealize.ShloMosaic.Lib.Pointwise
public import Idealize.ShloMosaic.Lib.Quiescent

@[expose] public section

set_option maxRecDepth 16384

noncomputable section

namespace Cert.ReferenceIdeal.Lut

open Idealize.ShloMosaic Idealize.SL.Sem Cert.ReferenceIdeal Cert.ReferenceIdeal.Gen

/-- The table row of each digit: the digit plus 11 times its channel. -/
def row (x : IVec S2048x32x32x3 32) : IVec S2048x32x32x3 32 :=
  addi x (broadcastInDim S2048x32x32x3 ![0, 1, 2, 3] bcast_S1x1x1x3_S2048x32x32x3_0_1_2_3
    (shapeCast S1x1x1x3 (fun i => lit0 (S3.rowMajor i)) shapeCasts_S3_S1x1x1x3))

/-- A negative row counted from the table's end, with the unit axis that the lookup wants. -/
def start (x : IVec S2048x32x32x3 32) : IVec S2048x32x32x3x1 32 :=
  broadcastInDim S2048x32x32x3x1 ![0, 1, 2, 3] bcast_S2048x32x32x3_S2048x32x32x3x1_0_1_2_3
    (select (cmpi .slt (row x) (broadcastInDim S2048x32x32x3 ![] bcast_S_S2048x32x32x3 (constantI S_ 32 0#32)))
      (addi (row x) (broadcastInDim S2048x32x32x3 ![] bcast_S_S2048x32x32x3 (constantI S_ 32 33#32))) (row x))

/-- Where the row is one of the table's 33. -/
def inside (x : IVec S2048x32x32x3 32) : IVec S2048x32x32x3 1 :=
  Host.reduce IntOp.andi
    (andi (cmpi .sge (start x) (broadcastInDim S2048x32x32x3x1 ![] bcast_S_S2048x32x32x3x1 (constantI S_ 32 0#32)))
      (cmpi .sle (start x) (broadcastInDim S2048x32x32x3x1 ![0, 1, 2, 3, 4] bcast_S1x1x1x1x1_S2048x32x32x3x1_0_1_2_3_4
        (broadcastInDim S1x1x1x1x1 ![4] bcast_S1_S1x1x1x1x1_4 (constantI S1 32 32#32)))))
    (constantI S_ 1 1#1) reducesTo_S2048x32x32x3x1_S2048x32x32x3_d4 h_S_

/-- The looked-up rows, one per digit, the NaN constant where the row is not in the table. -/
def taken (x : IVec S2048x32x32x3 32) (t : FVec Ideal S33x8 .f32) : FVec Ideal S2048x32x32x3x8 .f32 :=
  select (broadcastInDim S2048x32x32x3x8 ![0, 1, 2, 3] bcast_S2048x32x32x3_S2048x32x32x3x8_0_1_2_3 (inside x))
    (Host.gather gather_S33x8_S2048x32x32x3x1_S2048x32x32x3x8_4_0_n_n_0_4_18 t (start x))
    (broadcastInDim S2048x32x32x3x8 ![] bcast_S_S2048x32x32x3x8 (constant S_ .f32 0x7FC00000#32))

/-- The reference's result: the three rows of 8 side by side, and the feature axis moved forward. -/
def result (x : IVec S2048x32x32x3 32) (t : FVec Ideal S33x8 .f32) : FVec Ideal S2048x24x32x32 .f32 :=
  transpose S2048x24x32x32 [0, 3, 1, 2] (shapeCast S2048x32x32x24 (taken x t) shapeCasts_S2048x32x32x3x8_S2048x32x32x24)
    transposes_S2048x32x32x24_S2048x24x32x32_0_3_1_2

/-- The reference runs, ends with its result at `result` of its arguments, and leaves these as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c => ⟨(h c).1.trans rfl, (h c).2⟩) (Value.run m ρ)

/-- The reference runs, leaves its arguments as they were, and every semaphore counter at zero, having none. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run (defs (F := Ideal)) _ _).mono (fun r h => ⟨fun c => (h c).2, sem_eq_zero_of_no_sems (by decide) r.2⟩) (Value.run m ρ)

/-- The row offsets of the three channels, 0, 11 and 22. -/
theorem offset_lit : ∀ c : Fin 3, lit0 (S3.rowMajor (ix1 c)) = BitVec.ofNat 32 (11 * c.val) := by
  decide +kernel

/-- The row of a digit in range, as a number. -/
theorem row_toNat (x : IVec S2048x32x32x3 32) (b : Fin 2048) (y z : Fin 32) (c : Fin 3) (h : (x (ix4 b y z c)).toNat < 11) :
    (row x (ix4 b y z c)).toNat = 11 * c.val + (x (ix4 b y z c)).toNat := by
  unfold row
  pointwise
  rw [offset_lit]
  generalize x (ix4 b y z c) = w at h ⊢
  show (w + BitVec.ofNat 32 (11 * c.val)).toNat = _
  have := c.isLt
  rw [BitVec.toNat_add, BitVec.toNat_ofNat]
  omega

/-- It is not negative, so it stands as it is. -/
theorem start_eq (x : IVec S2048x32x32x3 32) (b : Fin 2048) (y z : Fin 32) (c : Fin 3) (h : (x (ix4 b y z c)).toNat < 11) :
    start x (ix5 b y z c 0) = row x (ix4 b y z c) := by
  have hr := row_toNat x b y z c h
  unfold start
  pointwise
  have := c.isLt
  generalize row x (ix4 b y z c) = w at hr ⊢
  have key : ∀ n : Fin 33, Scalar.select (IntOp.cmpi .slt (BitVec.ofNat 32 n.val) 0#32) (IntOp.addi (BitVec.ofNat 32 n.val) 33#32) (BitVec.ofNat 32 n.val)
      = BitVec.ofNat 32 n.val := by
    decide +kernel
  have hk := key ⟨w.toNat, by omega⟩
  rwa [BitVec.ofNat_toNat, BitVec.setWidth_eq] at hk

/-- It is inside the table. -/
theorem inside_eq (x : IVec S2048x32x32x3 32) (b : Fin 2048) (y z : Fin 32) (c : Fin 3) (h : (x (ix4 b y z c)).toNat < 11) :
    inside x (ix4 b y z c) = 1#1 := by
  have hr := row_toNat x b y z c h
  have hs := start_eq x b y z c h
  unfold inside
  pointwise
  have := c.isLt
  show IntOp.andi (IntOp.andi (IntOp.cmpi .sge (start x (ix5 b y z c 0)) 0#32) (IntOp.cmpi .sle (start x (ix5 b y z c 0)) 32#32)) 1#1 = 1#1
  rw [hs]
  generalize row x (ix4 b y z c) = w at hr ⊢
  have key : ∀ n : Fin 33, IntOp.andi (IntOp.andi (IntOp.cmpi .sge (BitVec.ofNat 32 n.val) 0#32) (IntOp.cmpi .sle (BitVec.ofNat 32 n.val) 32#32)) 1#1 = 1#1 := by
    decide +kernel
  have hk := key ⟨w.toNat, by omega⟩
  rwa [BitVec.ofNat_toNat, BitVec.setWidth_eq] at hk

/-- The lookup at an index whose row is in the table. -/
theorem gather_row (t : FVec Ideal S33x8 .f32) (I : IVec S2048x32x32x3x1 32) (b : Fin 2048) (y z : Fin 32) (c : Fin 3) (d : Fin 8) (r : Fin 33)
    (h : (I (ix5 b y z c 0)).toNat = r.val) :
    Host.gather gather_S33x8_S2048x32x32x3x1_S2048x32x32x3x8_4_0_n_n_0_4_18 t I (ix5 b y z c d) = t (ix2 r d) := by
  unfold Host.gather
  refine congrArg t (funext fun a => Fin.ext ?_)
  match a with
  | ⟨0, _⟩ =>
    have e : GatherDims.siIdx gather_S33x8_S2048x32x32x3x1_S2048x32x32x3x8_4_0_n_n_0_4_18 (ix5 b y z c d) ⟨0, by decide⟩ = ix5 b y z c 0 := by
      funext a'
      match a' with
      | ⟨0, _⟩ => rfl
      | ⟨1, _⟩ => rfl
      | ⟨2, _⟩ => rfl
      | ⟨3, _⟩ => rfl
      | ⟨4, _⟩ => rfl
    show min (I (GatherDims.siIdx gather_S33x8_S2048x32x32x3x1_S2048x32x32x3x8_4_0_n_n_0_4_18 (ix5 b y z c d) ⟨0, by decide⟩)).toInt.toNat (33 - 1) + 0 + 0
      = r.val
    rw [e]
    have hr := r.isLt
    rw [BitVec.toInt_eq_toNat_of_lt (by omega)]
    omega
  | ⟨1, _⟩ =>
    show 0 + 0 + d.val = d.val
    omega

/-- The reference at an index: the entry of the table at the digit's row, in the feature's column. -/
theorem result_apply (x : IVec S2048x32x32x3 32) (t : FVec Ideal S33x8 .f32) (b : Fin 2048) (k : Fin 24) (y z : Fin 32) (c : Fin 3) (r : Fin 33)
    (hc : c.val = k.val / 8) (h : (x (ix4 b y z c)).toNat < 11) (hr : r.val = 11 * c.val + (x (ix4 b y z c)).toNat) :
    result x t (ix4 b k y z) = t (ix2 r ⟨k.val % 8, by omega⟩) := by
  have hk : (⟨k.val / 8, by omega⟩ : Fin 3) = c := Fin.ext hc.symm
  unfold result taken
  pointwise
  rw [hk, inside_eq x b y z _ h, gather_row t _ b y z _ _ r]
  · rfl
  · rw [start_eq x b y z _ h, row_toNat x b y z _ h, hr]

end Cert.ReferenceIdeal.Lut

end
-- ==== Proof.Body.lean ====
/- What the kernel body leaves in its output block. The body handles the 128 rows of its block one after another, and every row goes through the same
   computation: this module names that computation once (`rowOut`), shows that each of the 128 stores is it on its own row, and reads the whole block off. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Lut

open Idealize.ShloMosaic Idealize.SL.Sem Cert.KernelIdeal Cert.KernelIdeal.Gen

/-- The field of the packed word that table row `r` looks at: four one bits, at the place of the row's channel. -/
abbrev fieldMask : IVec S40x1 32 := k0_pay3

/-- What table row `r` expects in that field: its own number within the channel, at the channel's place. -/
abbrev fieldWant : IVec S40x1 32 :=
  k0_pay7 k0_pay2 (Scalar.select (Scalar.cmpi .eq 11#32 0#32) 1#32 11#32) k0_pay4 k0_pay5 k0_pay6
    (Scalar.cmpi .slt (Scalar.select (Scalar.cmpi .eq 11#32 0#32) 1#32 11#32) 0#32)

/-- One row of the output block, from the expanded table `T` and one row of packed words. -/
abbrev rowOut (T : Vec Ideal S24x40 .bf16) (row : Vec Ideal S1x1024 .i16) : FVec Ideal S1x24x1024 .f32 :=
  k0_pay11 (F := Ideal) fieldMask fieldWant (k0_pay8 T) row

/-- Row `b` of the block of packed words. -/
def rowAt (X : Vec Ideal S128x1024 .i16) (b : Fin 128) : Vec Ideal S1x1024 .i16 := fun z => X (ix2 b (z 1))

/-- The whole output block: at row `b` it is `rowOut` of row `b`. -/
def blockOut (X : Vec Ideal S128x1024 .i16) (T : Vec Ideal S24x40 .bf16) : Vec Ideal S128x24x1024 .f32 :=
  fun y => rowOut T (rowAt X (y 0)) (ix3 0 (y 1) (y 2))

/-- Loading all of the table's block gives the table's block. -/
theorem ld_table (T : Vec Ideal S24x40 .bf16) : View.ld T r0_0 = T := by
  funext z
  idx_vars z
  pointwise

/-- Row `b` lies inside the block of packed words, -/
theorem inRow (b : ℕ) (hb : b < 128) (a : Fin 2) : (![b, 0] : Fin 2 → ℕ) a + S1x1024.size a ≤ S128x1024.size a := by
  match a with
  | ⟨0, _⟩ => show b + 1 ≤ 128; omega
  | ⟨1, _⟩ => exact (by decide : 0 + 1024 ≤ 1024)

/-- and row `b` of the output inside the output block. -/
theorem inOut (b : ℕ) (hb : b < 128) (a : Fin 3) : (![b, 0, 0] : Fin 3 → ℕ) a + S1x24x1024.size a ≤ S128x24x1024.size a := by
  match a with
  | ⟨0, _⟩ => show b + 1 ≤ 128; omega
  | ⟨1, _⟩ => exact (by decide : 0 + 24 ≤ 24)
  | ⟨2, _⟩ => exact (by decide : 0 + 1024 ≤ 1024)

/-- Loading row `b` of the packed words gives row `b`. -/
theorem ld_row (X : Vec Ideal S128x1024 .i16) (b : ℕ) (hb : b < 128) :
    View.ld X (Rect.unit (s := S128x1024) ![b, 0] S1x1024.size (inRow b hb)) = rowAt X ⟨b, hb⟩ := by
  funext z
  refine View.ld_unit_apply_of X _ _ _ _ _ fun a => ?_
  match a with
  | ⟨0, _⟩ =>
    have h : (z 0).val < 1 := (z 0).isLt
    show b = b + (z 0).val
    omega
  | ⟨1, _⟩ => exact (Nat.zero_add _).symm

/-- The store of row `b` writes the block's row `b`: the one fact that all 128 stores are instances of. -/
theorem piece (X : Vec Ideal S128x1024 .i16) (T : Vec Ideal S24x40 .bf16) (b : ℕ) (hb : b < 128)
    (x : (Rect.unit (s := S128x24x1024) ![b, 0, 0] S1x24x1024.size (inOut b hb)).shape.Idx) :
    rowOut (View.ld T r0_0) (View.ld X (Rect.unit (s := S128x1024) ![b, 0] S1x1024.size (inRow b hb))) x
      = blockOut X T ((Rect.unit (s := S128x24x1024) ![b, 0, 0] S1x24x1024.size (inOut b hb)).emb x) := by
  rw [ld_table, ld_row X b hb]
  unfold blockOut
  have h0 : (x 0).val < 1 := (x 0).isLt
  refine congr (congrArg (rowOut T) (congrArg (rowAt X) (Fin.ext ?_))) ?_
  · show b = b + 1 * (x 0).val
    omega
  · funext a
    apply Fin.ext
    match a with
    | ⟨0, _⟩ => show (x 0).val = 0; omega
    | ⟨1, _⟩ => show (x 1).val = 0 + 1 * (x 1).val; omega
    | ⟨2, _⟩ => show (x 2).val = 0 + 1 * (x 2).val; omega

/-- The 128 stores leave the block `blockOut`. -/
theorem block_eq (X : Vec Ideal S128x1024 .i16) (T : Vec Ideal S24x40 .bf16) : out0_2 (F := Ideal) X T = blockOut X T := by
  funext y
  unfold_out out0_2
  dsimp only
  refine View.canon_apply_of_pieces (blockOut X T) _ (View.PiecesOf.mem ?_) y (View.cover_of_tiled_head _ _ _ (by rfl) y)
  repeat' (first | exact True.intro | refine ⟨fun x => piece X T _ (by decide) x, ?_⟩)

end Cert.KernelIdeal.Lut

end
-- ==== Proof.Row.lean ====
/- What one row of the output block holds at an index: the contraction of the expanded table with the row's matches. -/
module

public import proofs.«01_k».proof.Proof.Body

@[expose] public section

set_option maxRecDepth 16384

noncomputable section

namespace Cert.KernelIdeal.Lut

open Idealize.ShloMosaic Idealize.SL.Sem Cert.KernelIdeal Cert.KernelIdeal.Gen

/-- Table row `r` looks at the four bits of its own channel, `r / 11`, -/
theorem mask_lit : ∀ r : Fin 40, r.val < 33 → fieldMask (ix2 r 0) = 15#32 <<< (4 * (r.val / 11)) := by
  decide +kernel

/-- and wants the digit `r % 11` there. -/
theorem want_lit : ∀ r : Fin 40, r.val < 33 → fieldWant (ix2 r 0) = BitVec.ofNat 32 (r.val % 11) <<< (4 * (r.val / 11)) := by
  decide +kernel

/-- One row's output: the table against the rows' matches, a sum of the table's entries over the matching rows. -/
theorem rowOut_apply (T : Vec Ideal S24x40 .bf16) (row : Vec Ideal S1x1024 .i16) (k : Fin 24) (p : Fin 1024) :
    rowOut T row (ix3 0 k p) = ∑ r : Fin 40, T (ix2 k r) * (if (BitVec.signExtend 32 (row (ix2 0 p))) &&& fieldMask (ix2 r 0) = fieldWant (ix2 r 0) then (1 : EReal) else 0) := by
  unfold rowOut
  generalize fieldMask = M
  generalize fieldWant = W
  pointwise [k0_pay11, k0_pay8]
  refine Finset.sum_congr rfl fun r _ => congrArg (T (ix2 k r) * ·) ?_
  show ((((BitVec.ofBool (decide (BitVec.signExtend 32 (row (ix2 0 p)) &&& M (ix2 r 0) = W (ix2 r 0)))).setWidth 32).toInt : ℝ) : EReal) = _
  by_cases h : BitVec.signExtend 32 (row (ix2 0 p)) &&& M (ix2 r 0) = W (ix2 r 0)
  · rw [if_pos h, decide_eq_true h]
    exact congrArg ((↑) : ℝ → EReal) (Int.cast_one (R := ℝ))
  · rw [if_neg h, decide_eq_false h]
    exact congrArg ((↑) : ℝ → EReal) (Int.cast_zero (R := ℝ))

end Cert.KernelIdeal.Lut

end
-- ==== Proof.Array.lean ====
/- What the kernel leaves in its output array: the blocks of the 16 grid points put together, then @main's reshape of the place into row and column. -/
module

public import proofs.«01_k».proof.Proof.Row
public import Idealize.ShloMosaic.Lib.StableHlo.RunRead
public import Idealize.ShloMosaic.Lib.Tactic.CleanTypes

@[expose] public section

set_option maxRecDepth 16384

noncomputable section

namespace Cert.KernelIdeal.Lut

open Idealize.ShloMosaic Idealize.SL.Sem Cert.KernelIdeal Cert.KernelIdeal.Gen

variable (m : (ℓ : Loc nD τ sig) → Buf (Elt Ideal) ℓ)

/-- The packed words as the kernel finds them, -/
abbrev packed (c : Dev nD) : Vec Ideal S2048x1024 .i16 := V m c main_v5

/-- and the expanded table. -/
abbrev expanded (c : Dev nD) : Vec Ideal S24x40 .bf16 := V m c main_v26

/-- One entry of the output: feature `k`'s row of the expanded table, summed over the table rows that the packed word at row `b`, place `p` matches. -/
def entry (c : Dev nD) (b : Fin 2048) (k : Fin 24) (p : Fin 1024) : EReal :=
  ∑ r : Fin 40, expanded m c (ix2 k r)
    * (if BitVec.signExtend 32 (packed m c (ix2 b p)) &&& fieldMask (ix2 r 0) = fieldWant (ix2 r 0) then (1 : EReal) else 0)

/-- Grid point `t` takes the `t`-th block of 128 rows, the whole table, and writes the `t`-th block of the output. -/
theorem idx : ∀ t : Fin cfg0.N, win0_0.index t = ![t.val, 0] ∧ win0_1.index t = ![0, 0] ∧ win0_2.index t = ![t.val, 0, 0] :=
  (by decide +kernel : ∀ t : Fin grid0.N, _)

/-- The table's window is the whole table at every grid point. -/
theorem table_blk (c : Dev nD) (t : Fin cfg0.N) (k : Fin 24) (r : Fin 40) :
    (iblk m c 1 t : Vec Ideal S24x40 .bf16) (ix2 k r) = expanded m c (ix2 k r) := by
  blk_ext [iblk, idx t]

/-- Row `b` of the packed words' block at grid point `t` is the array's row `t * 128 + b`. -/
theorem packed_blk (c : Dev nD) (t : Fin cfg0.N) (b : Fin 128) (p : Fin 1024) :
    rowAt (iblk m c 0 t) b (ix2 0 p) = packed m c (ix2 ⟨t.val * 128 + b.val, by have ht : t.val < 16 := t.isLt; omega⟩ p) := by
  unfold rowAt
  blk_ext [iblk, idx t]

/-- The output array holds `entry` everywhere: every block that a grid point leaves is the block of one array. -/
theorem array_eq (c : Dev nD) :
    ((dats m 0 c).arrAt 2 cfg0.N : Vec Ideal S2048x24x1024 .f32) = fun i => entry m c (i 0) (i 1) (i 2) := by
  refine (dats m 0 c).arrAt_eq_of_covers 2 _ (by decide +kernel) fun t hf y => ?_
  blk_simp
  rw [after0_2, block_eq]
  unfold blockOut entry
  refine (rowOut_apply _ _ (y 1) (y 2)).trans (Finset.sum_congr rfl fun r _ => ?_)
  have hT := table_blk m c t (y 1) r
  have hX := packed_blk m c t (y 0) (y 2)
  rw [hT, hX]
  have e0 : ((win0_2.blk t).view.emb y 0).val = t.val * 128 + (y 0).val := by blk_simp [idx t]
  have e1 : ((win0_2.blk t).view.emb y 1).val = (y 1).val := by blk_simp [idx t]
  have e2 : ((win0_2.blk t).view.emb y 2).val = (y 2).val := by blk_simp [idx t]
  rw [show (win0_2.blk t).view.emb y 1 = (y 1 : Fin 24) from Fin.ext e1, show (win0_2.blk t).view.emb y 2 = (y 2 : Fin 1024) from Fin.ext e2,
    show (win0_2.blk t).view.emb y 0 = (⟨t.val * 128 + (y 0).val, by have ht : t.val < 16 := t.isLt; have h0 : (y 0).val < 128 := (y 0).isLt; omega⟩ : Fin 2048) from Fin.ext e0]

/-- The result is the output array with the last axis split in two. -/
theorem tail_eq (c : Dev nD) :
    (Pipeline.afterTail₀ cfgs (dats m) 0 (V0 m) [hostOps1] c main_v28 : Vec Ideal S2048x24x32x32 .f32)
      = shapeCast S2048x24x32x32 ((dats m 0 c).arrAt 2 cfg0.N : Vec Ideal S2048x24x1024 .f32) shapeCasts_S2048x24x1024_S2048x24x32x32 := by
  have e : Pipeline.withArrays (cfgs 0).spec c (V0 m c) (fun w => (dats m 0 c).arrAt w (cfgs 0).N) (Proc.devRef .tc main_v27)
      = (dats m 0 c).arrAt 2 cfg0.N :=
    Pipeline.withArrays_arr spec0 (by decide +kernel) c (V0 m c) (fun w => (dats m 0 c).arrAt w cfg0.N) 2
  unfold Pipeline.afterTail₀
  simp only [hostOps1, List.flatten_cons, List.flatten_nil, List.append_nil]
  after_results
  rw [e]
  generalize (dats m 0 c).arrAt 2 cfg0.N = A
  rfl

/-- Splitting the last axis in two, at an index. -/
theorem split_apply (A : Vec Ideal S2048x24x1024 .f32) (b : Fin 2048) (k : Fin 24) (y z : Fin 32) :
    shapeCast S2048x24x32x32 A shapeCasts_S2048x24x1024_S2048x24x32x32 (ix4 b k y z) = A (ix3 b k ⟨y.val * 32 + z.val, by omega⟩) := by
  pointwise

/-- Its entry at row `y` and column `z` is the output array's at place `32 * y + z`. -/
theorem result_eq (c : Dev nD) (b : Fin 2048) (k : Fin 24) (y z : Fin 32) :
    (Pipeline.afterTail₀ cfgs (dats m) 0 (V0 m) [hostOps1] c main_v28 : Vec Ideal S2048x24x32x32 .f32) (ix4 b k y z)
      = entry m c b k ⟨y.val * 32 + z.val, by omega⟩ :=
  (congrFun (tail_eq m c) _).trans ((split_apply _ b k y z).trans (congrFun (array_eq m c) _))

/-- The kernel's program runs, ends with its result at what the lines after the kernel make of the output array, and leaves
    its arguments as they were. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v28) = Pipeline.afterTail₀ cfgs (dats m) 0 (V0 m) [hostOps1] c main_v28
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).2 main_v28 (Pipeline.mem_restRefs_of main_v28 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩) (run_main m ρ)

end Cert.KernelIdeal.Lut

end
-- ==== Proof.Operands.lean ====
/- What the host operations before the kernel hand to it: the packed words and the expanded table. -/
module

public import proofs.«01_k».proof.Proof.Gen.KernelIdeal.Frame
public import Idealize.ShloMosaic.Lib.Pipeline.ValueKit
public import Idealize.ShloMosaic.Lib.Pointwise
public import Idealize.ShloMosaic.Lib.StableHlo.RunRead
public import Idealize.ShloMosaic.Lib.Tactic.CleanTypes

@[expose] public section

set_option maxRecDepth 16384

noncomputable section

namespace Cert.KernelIdeal.Lut

open Idealize.ShloMosaic Idealize.SL.Sem Cert.KernelIdeal Cert.KernelIdeal.Gen

variable (m : (ℓ : Loc nD τ sig) → Buf (Elt Ideal) ℓ)

/-- The digits, as the program is given them, -/
abbrev digits (c : Dev nD) : IVec S2048x32x32x3 32 := m ((c.tc : Thread nD τ).loc main_arg0)

/-- and the table. -/
abbrev rows (c : Dev nD) : FVec Ideal S33x8 .f32 := m ((c.tc : Thread nD τ).loc main_arg1)

/-- The three shifts that the digits are packed with, 1, 16 and 256. -/
theorem shift_lit : lit0 (S3.rowMajor (ix1 0)) = 1#32 ∧ lit0 (S3.rowMajor (ix1 1)) = 16#32 ∧ lit0 (S3.rowMajor (ix1 2)) = 256#32 := by
  decide +kernel

/-- The packed word of row `b` at place `p`: the three channels' digits at that place, four bits apart. -/
theorem packed_apply (c : Dev nD) (b : Fin 2048) (p : Fin 1024) :
    (V m c main_v5 : Vec Ideal S2048x1024 .i16) (ix2 b p) =
      BitVec.setWidth 16
        (digits m c (ix4 b ⟨p.val / 32, by omega⟩ ⟨p.val % 32, by omega⟩ 0) * 1#32
          + (digits m c (ix4 b ⟨p.val / 32, by omega⟩ ⟨p.val % 32, by omega⟩ 1) * 16#32
            + (digits m c (ix4 b ⟨p.val / 32, by omega⟩ ⟨p.val % 32, by omega⟩ 2) * 256#32 + 0#32))) := by
  unfold V V0
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  clean_types
  pointwise
  obtain ⟨h0, h1, h2⟩ := shift_lit
  rw [← h0, ← h1, ← h2]
  rfl

/-- Division of every entry of `x` by the word `d`, rounded down: the quotient towards zero, less one where the signs differ and something remains. -/
def floorDiv {s : Shape} (h : S_.BroadcastsInDim s ![]) (x : IVec s 32) (d : BitVec 32) : IVec s 32 :=
  select
    (andi (cmpi .ne (signi x) (broadcastInDim s ![] h (signi (constantI S_ 32 d))))
      (cmpi .ne (Host.remsi x (broadcastInDim s ![] h (constantI S_ 32 d))) (broadcastInDim s ![] h (constantI S_ 32 0#32))))
    (subi (Host.divsi x (broadcastInDim s ![] h (constantI S_ 32 d))) (broadcastInDim s ![] h (constantI S_ 32 1#32)))
    (Host.divsi x (broadcastInDim s ![] h (constantI S_ 32 d)))

/-- The channel of each of the 40 table rows, its number divided by 11. -/
def rowChannel : IVec S1x40 32 := floorDiv bcast_S_S1x40 (broadcastInDim S1x40 ![1] bcast_S40_S1x40_1 (iotaInDim S40 32 0)) 11#32

/-- The channel of each of the 24 output features, its number divided by 8. -/
def featChannel : IVec S24x1 32 := floorDiv bcast_S_S24x1 (broadcastInDim S24x1 ![0] bcast_S24_S24x1_0 (iotaInDim S24 32 0)) 8#32

/-- Where feature and table row are of the same channel. -/
def sameChannel : IVec S24x40 1 :=
  cmpi .eq (broadcastInDim S24x40 ![0, 1] bcast_S1x40_S24x40_0_1 rowChannel) (broadcastInDim S24x40 ![0, 1] bcast_S24x1_S24x40_0_1 featChannel)

/-- The divisor of the remainder below: 8, after the test for a divisor of zero. -/
def eight : IVec S_ 32 := select (cmpi .eq (constantI S_ 32 8#32) (constantI S_ 32 0#32)) (constantI S_ 32 1#32) (constantI S_ 32 8#32)

/-- The features' numbers modulo 8, as the remainder towards zero, -/
def featRem : IVec S24 32 := Host.remsi (iotaInDim S24 32 0) (broadcastInDim S24 ![] bcast_S_S24 eight)

/-- then brought to the divisor's sign, -/
def featMod : IVec S24 32 :=
  select
    (andi (cmpi .ne (cmpi .slt featRem (broadcastInDim S24 ![] bcast_S_S24 (constantI S_ 32 0#32)))
        (broadcastInDim S24 ![] bcast_S_S24 (cmpi .slt eight (constantI S_ 32 0#32))))
      (cmpi .ne featRem (broadcastInDim S24 ![] bcast_S_S24 (constantI S_ 32 0#32))))
    (addi featRem (broadcastInDim S24 ![] bcast_S_S24 eight)) featRem

/-- and a negative one counted from the end: the table column that each feature reads. -/
def featColumn : IVec S24x1 32 :=
  broadcastInDim S24x1 ![0] bcast_S24_S24x1_0
    (select (cmpi .slt featMod (broadcastInDim S24 ![] bcast_S_S24 (constantI S_ 32 0#32)))
      (addi featMod (broadcastInDim S24 ![] bcast_S_S24 (constantI S_ 32 8#32))) featMod)

/-- Feature and row are of the same channel exactly when their numbers, divided by 8 and by 11, agree. -/
theorem sameChannel_lit : ∀ (k : Fin 24) (r : Fin 40), sameChannel (ix2 k r) = BitVec.ofBool (decide (r.val / 11 = k.val / 8)) := by
  decide +kernel

/-- Feature `k` reads column `k % 8`. -/
theorem featColumn_lit : ∀ k : Fin 24, featColumn (ix2 k 0) = BitVec.ofNat 32 (k.val % 8) := by
  decide +kernel

/-- The expanded table before the change of format. -/
theorem table_eq (c : Dev nD) :
    (V m c main_v26 : Vec Ideal S24x40 .bf16) =
      (truncf .bf16 (select sameChannel
        (Host.gather gather_S8x40_S24x1_S24x40_1_0_n_n_0_1_140
          (transpose S8x40 [1, 0]
            (pad S40x8 ![0, 0] ![7, 0] ![0, 0] (rows m c) (sitofp .f32 (constantI S_ 32 0#32))
              pads_S33x8_S40x8_070_000 h_S_)
            transposes_S40x8_S8x40_1_0)
          featColumn)
        (broadcastInDim S24x40 ![] bcast_S_S24x40 (constant (F := Ideal) S_ .f32 0x00000000#32))) bitsLt_bf16_f32) := by
  unfold V V0
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  simp only [StableHlo.TRef.ofBuf_toBuf, id_eq]
  unfold sameChannel featColumn featMod featRem eight rowChannel featChannel floorDiv
  rfl

/-- The gather of columns at an index. -/
theorem gather_col (X : FVec Ideal S8x40 .f32) (I : IVec S24x1 32) (k : Fin 24) (r : Fin 40) (d : Fin 8) (h : I (ix2 k 0) = BitVec.ofNat 32 d.val) :
    Host.gather gather_S8x40_S24x1_S24x40_1_0_n_n_0_1_140 X I (ix2 k r) = X (ix2 d r) := by
  unfold Host.gather
  refine congrArg X (funext fun a => Fin.ext ?_)
  match a with
  | ⟨0, _⟩ =>
    have e : GatherDims.siIdx gather_S8x40_S24x1_S24x40_1_0_n_n_0_1_140 (ix2 k r) ⟨0, by decide⟩ = ix2 k 0 := by
      funext b
      match b with
      | ⟨0, _⟩ => rfl
      | ⟨1, _⟩ => rfl
    show min (I (GatherDims.siIdx gather_S8x40_S24x1_S24x40_1_0_n_n_0_1_140 (ix2 k r) ⟨0, by decide⟩)).toInt.toNat (8 - 1) + 0 + 0 = d.val
    rw [e, h]
    clear h e
    revert d
    decide
  | ⟨1, _⟩ =>
    show 0 + 0 + r.val = r.val
    omega

/-- The expanded table at feature `k` and table row `r`: the row's entry at the feature's column where the channels agree, else zero. -/
theorem table_apply (c : Dev nD) (k : Fin 24) (r : Fin 40) (hr : r.val / 11 = k.val / 8) :
    (V m c main_v26 : Vec Ideal S24x40 .bf16) (ix2 k r) = rows m c (ix2 ⟨r.val, by omega⟩ ⟨k.val % 8, by omega⟩) := by
  rw [table_eq]
  pointwise
  rw [sameChannel_lit, decide_eq_true hr, gather_col _ _ k r ⟨k.val % 8, by omega⟩ (featColumn_lit k)]
  pointwise
  exact dif_pos ⟨by omega, by omega⟩

/-- Where the channels differ it is zero. -/
theorem table_off (c : Dev nD) (k : Fin 24) (r : Fin 40) (hr : r.val / 11 ≠ k.val / 8) :
    (V m c main_v26 : Vec Ideal S24x40 .bf16) (ix2 k r) = (0 : EReal) := by
  rw [table_eq]
  pointwise
  rw [sameChannel_lit, decide_eq_false hr]
  rfl

end Cert.KernelIdeal.Lut

end
-- ==== Proof.Equation.lean ====
/- The equation: the sum that the kernel forms has one term, the table's entry at the digit's row. -/
module

public import proofs.«01_k».proof.Proof.Array
public import proofs.«01_k».proof.Proof.Operands

@[expose] public section

set_option maxRecDepth 16384

noncomputable section

namespace Cert.KernelIdeal.Lut

open Idealize.ShloMosaic Idealize.SL.Sem Cert.KernelIdeal Cert.KernelIdeal.Gen

/-- The packed word of three digits. -/
def pack (x : Fin 3 → BitVec 32) : BitVec 16 := BitVec.setWidth 16 (x 0 * 1#32 + (x 1 * 16#32 + (x 2 * 256#32 + 0#32)))

/-- Channel `c`'s four bits of three packed digits are that digit. -/
theorem field_lit : ∀ (a0 a1 a2 : Fin 11) (c : Fin 3),
    BitVec.signExtend 32 (BitVec.setWidth 16 (BitVec.ofNat 32 a0.val * 1#32 + (BitVec.ofNat 32 a1.val * 16#32 + (BitVec.ofNat 32 a2.val * 256#32 + 0#32))))
      &&& 15#32 <<< (4 * c.val) = BitVec.ofNat 32 ((![a0, a1, a2] : Fin 3 → Fin 11) c).val <<< (4 * c.val) := by
  decide +kernel

/-- Two digits at the same place are the same word only when they are the same digit. -/
theorem shift_inj : ∀ (a v : Fin 11) (c : Fin 3), BitVec.ofNat 32 a.val <<< (4 * c.val) = BitVec.ofNat 32 v.val <<< (4 * c.val) ↔ a = v := by
  decide +kernel

/-- Channel `c`'s bits match the digit `v` just when that channel's digit is `v`. -/
theorem match_iff (x : Fin 3 → BitVec 32) (hx : ∀ c, (x c).toNat < 11) (c : Fin 3) (v : Nat) (hv : v < 11) :
    BitVec.signExtend 32 (pack x) &&& 15#32 <<< (4 * c.val) = BitVec.ofNat 32 v <<< (4 * c.val) ↔ (x c).toNat = v := by
  have e : ∀ d, x d = BitVec.ofNat 32 (x d).toNat := fun d => by rw [BitVec.ofNat_toNat, BitVec.setWidth_eq]
  have h := field_lit ⟨(x 0).toNat, hx 0⟩ ⟨(x 1).toNat, hx 1⟩ ⟨(x 2).toNat, hx 2⟩ c
  dsimp only at h
  rw [← e 0, ← e 1, ← e 2] at h
  unfold pack
  rw [h]
  have ec : (![(⟨(x 0).toNat, hx 0⟩ : Fin 11), ⟨(x 1).toNat, hx 1⟩, ⟨(x 2).toNat, hx 2⟩] : Fin 3 → Fin 11) c = ⟨(x c).toNat, hx c⟩ := by
    fin_cases c <;> rfl
  rw [ec]
  exact (shift_inj ⟨(x c).toNat, hx c⟩ ⟨v, hv⟩ c).trans Fin.ext_iff

variable (m : (ℓ : Loc nD τ sig) → Buf (Elt Ideal) ℓ)

/-- Under the range, an entry of the output is the table's entry at the digit's row, in the feature's column. -/
theorem entry_eq (c : Dev nD) (hd : ∀ i, (digits m c i).toNat < 11) (b : Fin 2048) (k : Fin 24) (p : Fin 1024) (ch : Fin 3) (r : Fin 33)
    (hch : ch.val = k.val / 8)
    (hr : r.val = 11 * ch.val + (digits m c (ix4 b ⟨p.val / 32, by omega⟩ ⟨p.val % 32, by omega⟩ ch)).toNat) :
    entry m c b k p = rows m c (ix2 r ⟨k.val % 8, by omega⟩) := by
  let x : Fin 3 → BitVec 32 := fun d => digits m c (ix4 b ⟨p.val / 32, by omega⟩ ⟨p.val % 32, by omega⟩ d)
  have hx : ∀ d, (x d).toNat < 11 := fun d => hd _
  have hp : packed m c (ix2 b p) = pack x := packed_apply m c b p
  have hrx : r.val = 11 * ch.val + (x ch).toNat := hr
  have hxc := hx ch
  unfold entry
  rw [hp, Finset.sum_eq_single (⟨r.val, by omega⟩ : Fin 40)]
  · have hq : r.val / 11 = k.val / 8 := by omega
    rw [mask_lit _ r.isLt, want_lit _ r.isLt, if_pos, mul_one]
    · exact table_apply m c k ⟨r.val, by omega⟩ hq
    · dsimp only
      rw [show r.val / 11 = ch.val by omega]
      exact (match_iff x hx ch (r.val % 11) (by omega)).2 (by omega)
  · intro s _ hs
    have hs' : s.val ≠ r.val := fun e => hs (Fin.ext e)
    by_cases hq : s.val / 11 = k.val / 8
    · rw [mask_lit s (by omega), want_lit s (by omega), if_neg, mul_zero]
      rw [show s.val / 11 = ch.val by omega]
      exact fun e => absurd ((match_iff x hx ch (s.val % 11) (by omega)).1 e) (by omega)
    · rw [show expanded m c (ix2 k s) = (0 : EReal) from table_off m c k s hq, zero_mul]
  · exact fun h => absurd (Finset.mem_univ _) h

end Cert.KernelIdeal.Lut

end
-- ==== Proof.Results.lean ====
/- The kernel's result and the reference's, index by index. -/
module

public import proofs.«01_k».proof.Proof.Reference
public import proofs.«01_k».proof.Proof.Equation

@[expose] public section

set_option maxRecDepth 16384

noncomputable section

namespace Cert.KernelIdeal.Lut

open Idealize.ShloMosaic Idealize.SL.Sem Cert.KernelIdeal Cert.KernelIdeal.Gen

/-- The two results agree at every index: both are the table's entry at the digit's row, in the feature's column. -/
theorem results_eq (m : (ℓ : Loc nD τ sig) → Buf (Elt Ideal) ℓ) (c : Dev nD)
    (hd : ∀ i, (digits m c i).toNat < 11) :
    (Pipeline.afterTail₀ cfgs (dats m) 0 (V0 m) [hostOps1] c main_v28
        : Vec Ideal S2048x24x32x32 .f32)
      = ReferenceIdeal.Lut.result (digits m c) (rows m c) := by
  funext i
  obtain ⟨b, k, y, z, rfl⟩ : ∃ (b : Fin 2048) (k : Fin 24) (y z : Fin 32), i = ix4 b k y z := ⟨i 0, i 1, i 2, i 3, eq_ix4 i⟩
  have hk := k.isLt
  have hx := hd (ix4 b y z ⟨k.val / 8, by omega⟩)
  refine (result_eq m c b k y z).trans ?_
  refine (entry_eq m c hd b k _ ⟨k.val / 8, by omega⟩
    ⟨11 * (k.val / 8) + (digits m c (ix4 b y z ⟨k.val / 8, by omega⟩)).toNat, by omega⟩ rfl ?_).trans
    (ReferenceIdeal.Lut.result_apply (digits m c) (rows m c) b k y z ⟨k.val / 8, by omega⟩ _ rfl hx rfl).symm
  have ey : (⟨(y.val * 32 + z.val) / 32, by omega⟩ : Fin 32) = y := Fin.ext (by dsimp only; omega)
  have ez : (⟨(y.val * 32 + z.val) % 32, by omega⟩ : Fin 32) = z := Fin.ext (by dsimp only; omega)
  dsimp only
  rw [ey, ez]

end Cert.KernelIdeal.Lut

end
-- ==== Proof.lean ====
/- The five claims of the statement: the three programs' frames, the second program's being the first one's idealization, and
   the kernel's and the reference's results being equal as extended reals whenever every digit is in its range. -/
module

public import proofs.«01_k».proof.Defs
public import proofs.«01_k».proof.Proof.Gen.Kernel.Frame
public import proofs.«01_k».proof.Proof.Range
public import proofs.«01_k».proof.Proof.Results

@[expose] public section

set_option maxRecDepth 16384

noncomputable section

namespace Cert.Proof

open Idealize.ShloMosaic Idealize.SL.Sem

/-- The kernel's result and the reference's are equal, from memories that agree on the arguments and digits in their range. -/
theorem algebraic : Cert.algebraic_KernelIdeal_ReferenceIdeal_pre_digits_in_range (hKernelIdeal := Cert.KernelIdeal.Gen.facts)
    (hReferenceIdeal := Cert.ReferenceIdeal.Gen.facts) (hPre_digits_in_range := Pre_digits_in_range.Lut.facts) := by
  haveI := Pre_digits_in_range.Lut.facts
  intro m g m' g' hpre hagree
  refine ⟨fun c => ReferenceIdeal.Lut.result (m' ((c.tc : Thread ReferenceIdeal.nD ReferenceIdeal.τ).loc ReferenceIdeal.main_arg0))
    (m' ((c.tc : Thread ReferenceIdeal.nD ReferenceIdeal.τ).loc ReferenceIdeal.main_arg1)), ?_, ReferenceIdeal.Lut.run m' g'⟩
  refine (θ_run _ _ _).mono (fun _ h c => ⟨(h c).1.trans ?_, (h c).2⟩) (KernelIdeal.Lut.run m g)
  dsimp only
  rw [(hagree c).1, (hagree c).2]
  exact KernelIdeal.Lut.results_eq m c (Pre_digits_in_range.Lut.digit_lt _ _ (hpre c))

/-- All of the claims. -/
theorem claim : Cert.Claim :=
  ⟨Cert.Kernel.Gen.facts, Cert.KernelIdeal.Gen.facts, Cert.ReferenceIdeal.Gen.facts, Pre_digits_in_range.Lut.facts,
    fun m g _ => Cert.Kernel.Gen.frame m g,
    fun m g _ => Cert.KernelIdeal.Gen.frame m g,
    fun m g _ => Cert.KernelIdeal.Gen.frame m g,
    fun m g _ => Cert.ReferenceIdeal.Lut.frame m g,
    fun m g _ => Cert.ReferenceIdeal.Lut.frame m g,
    trivial,
    algebraic⟩

end Cert.Proof

end
